-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "inv_two_alpha_sq" .f32 0x40B1C71C#32 ((16777216 / 3019899 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4x8192x3 : Shape := ⟨3, ![4, 8192, 3]⟩
abbrev S_ : Shape := ⟨0, ![]⟩

class Facts : Prop where
  bcast_S_S4x8192x3 : S_.BroadcastsInDim S4x8192x3 (![] : Fin 0 → Fin S4x8192x3.rank)

variable [Facts]

def fn {F : FTy → Type} [FloatOps F] (main_arg0 : FVec F S4x8192x3 .f32) (main_arg1 : FVec F S4x8192x3 .f32) (main_arg2 : FVec F S4x8192x3 .f32) : IVec S4x8192x3 1 × IVec S4x8192x3 1 :=
  let main_v0 : FVec F S4x8192x3 .f32 := Host.absf main_arg0
  let main_cst : FVec F S_ .f32 := constant S_ .f32 0x7F800000#32
  let main_v1 : FVec F S4x8192x3 .f32 := broadcastInDim S4x8192x3 ![] bcast_S_S4x8192x3 main_cst
  let main_v2 : IVec S4x8192x3 1 := cmpf .olt main_v0 main_v1
  let main_v3 : FVec F S4x8192x3 .f32 := Host.absf main_arg1
  let main_cst_0 : FVec F S_ .f32 := constant S_ .f32 0x7F800000#32
  let main_v4 : FVec F S4x8192x3 .f32 := broadcastInDim S4x8192x3 ![] bcast_S_S4x8192x3 main_cst_0
  let main_v5 : IVec S4x8192x3 1 := cmpf .olt main_v3 main_v4
  (main_v2, main_v5)
-- ==== Kernel.lean ====
abbrev S4x8192x3 : Shape := ⟨3, ![4, 8192, 3]⟩
abbrev S_ : Shape := ⟨0, ![]⟩
abbrev S4x8192 : Shape := ⟨2, ![4, 8192]⟩
abbrev S4x8192x1 : Shape := ⟨3, ![4, 8192, 1]⟩
abbrev S4x8192x8 : Shape := ⟨3, ![4, 8192, 8]⟩
abbrev S4x8x8192 : Shape := ⟨3, ![4, 8, 8192]⟩
abbrev S1x1 : Shape := ⟨2, ![1, 1]⟩
abbrev S1x2048x8 : Shape := ⟨3, ![1, 2048, 8]⟩
abbrev S1x8x8192 : Shape := ⟨3, ![1, 8, 8192]⟩
abbrev S1x8192 : Shape := ⟨2, ![1, 8192]⟩
abbrev S2048x8 : Shape := ⟨2, ![2048, 8]⟩
abbrev S8x8192 : Shape := ⟨2, ![8, 8192]⟩
abbrev S2048x8192 : Shape := ⟨2, ![2048, 8192]⟩
abbrev S2048 : Shape := ⟨1, ![2048]⟩
abbrev S1x2048 : Shape := ⟨2, ![1, 2048]⟩
abbrev S1 : Shape := ⟨1, ![1]⟩
abbrev S8192 : Shape := ⟨1, ![8192]⟩

abbrev nBuf : Space → Nat
  | .hbm => 35
  | .vmem => 5
  | .smem => 2
  | _ => 0

abbrev bufTy : (tb : Table) → Fin (tcTables nBuf tb) → BufTy
  | .hbm, ⟨0, _⟩ => ⟨S4x8192x3, .f32⟩
  | .hbm, ⟨1, _⟩ => ⟨S4x8192x3, .f32⟩
  | .hbm, ⟨2, _⟩ => ⟨S4x8192x3, .f32⟩
  | .hbm, ⟨3, _⟩ => ⟨S4x8192x3, .f32⟩
  | .hbm, ⟨4, _⟩ => ⟨S_, .f32⟩
  | .hbm, ⟨5, _⟩ => ⟨S4x8192, .f32⟩
  | .hbm, ⟨6, _⟩ => ⟨S4x8192x1, .f32⟩
  | .hbm, ⟨7, _⟩ => ⟨S4x8192x1, .bf16⟩
  | .hbm, ⟨8, _⟩ => ⟨S4x8192x1, .f32⟩
  | .hbm, ⟨9, _⟩ => ⟨S4x8192x1, .f32⟩
  | .hbm, ⟨10, _⟩ => ⟨S4x8192x3, .f32⟩
  | .hbm, ⟨11, _⟩ => ⟨S_, .f32⟩
  | .hbm, ⟨12, _⟩ => ⟨S4x8192, .f32⟩
  | .hbm, ⟨13, _⟩ => ⟨S4x8192x1, .f32⟩
  | .hbm, ⟨14, _⟩ => ⟨S4x8192x1, .bf16⟩
  | .hbm, ⟨15, _⟩ => ⟨S4x8192x1, .f32⟩
  | .hbm, ⟨16, _⟩ => ⟨S4x8192x1, .f32⟩
  | .hbm, ⟨17, _⟩ => ⟨S_, .f32⟩
  | .hbm, ⟨18, _⟩ => ⟨S4x8192x1, .f32⟩
  | .hbm, ⟨19, _⟩ => ⟨S_, .f32⟩
  | .hbm, ⟨20, _⟩ => ⟨S4x8192x1, .f32⟩
  | .hbm, ⟨21, _⟩ => ⟨S_, .f32⟩
  | .hbm, ⟨22, _⟩ => ⟨S4x8192x3, .f32⟩
  | .hbm, ⟨23, _⟩ => ⟨S4x8192x3, .f32⟩
  | .hbm, ⟨24, _⟩ => ⟨S_, .f32⟩
  | .hbm, ⟨25, _⟩ => ⟨S4x8192x1, .f32⟩
  | .hbm, ⟨26, _⟩ => ⟨S4x8192x8, .f32⟩
  | .hbm, ⟨27, _⟩ => ⟨S_, .f32⟩
  | .hbm, ⟨28, _⟩ => ⟨S4x8192x1, .f32⟩
  | .hbm, ⟨29, _⟩ => ⟨S4x8192x8, .f32⟩
  | .hbm, ⟨30, _⟩ => ⟨S4x8x8192, .f32⟩
  | .hbm, ⟨31, _⟩ => ⟨S4x8192x8, .bf16⟩
  | .hbm, ⟨32, _⟩ => ⟨S4x8x8192, .bf16⟩
  | .hbm, ⟨33, _⟩ => ⟨S1x1, .f32⟩
  | .hbm, ⟨34, _⟩ => ⟨S_, .f32⟩
  | .local _ .vmem, ⟨0, _⟩ => ⟨S1x2048x8, .bf16⟩
  | .local _ .vmem, ⟨1, _⟩ => ⟨S1x2048x8, .bf16⟩
  | .local _ .vmem, ⟨2, _⟩ => ⟨S1x8x8192, .bf16⟩
  | .local _ .vmem, ⟨3, _⟩ => ⟨S1x8x8192, .bf16⟩
  | .local _ .vmem, ⟨4, _⟩ => ⟨S1x8192, .f32⟩
  | .local _ .smem, ⟨0, _⟩ => ⟨S1x1, .f32⟩
  | .local _ .smem, ⟨1, _⟩ => ⟨S1x1, .f32⟩
  | _, _ => ⟨S4x8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_cst_3 : Ref sig .tc := ⟨.hbm, 21, rfl⟩
abbrev main_v14 : Ref sig .tc := ⟨.hbm, 22, rfl⟩
abbrev main_v15 : Ref sig .tc := ⟨.hbm, 23, rfl⟩
abbrev main_cst_4 : Ref sig .tc := ⟨.hbm, 24, rfl⟩
abbrev main_v16 : Ref sig .tc := ⟨.hbm, 25, rfl⟩
abbrev main_v17 : Ref sig .tc := ⟨.hbm, 26, rfl⟩
abbrev main_cst_5 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_stg2_0 : Ref sig .tc := ⟨.smem, 0, rfl⟩
abbrev cc0_scratch1 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![4, 4], ![false, false]⟩

def k0_cond4 (i : grid0.Coords) : BitVec 1 :=
  let arg0 : BitVec 32 := BitVec.ofNat 32 (i 0).val
  let c3_i32_23 : BitVec 32 := 3#32
  let v38 : BitVec 1 := Scalar.cmpi .eq arg0 c3_i32_23
  let arg1 : BitVec 32 := BitVec.ofNat 32 (i 1).val
  let c3_i32_24 : BitVec 32 := 3#32
  let v39 : BitVec 1 := Scalar.cmpi .eq arg1 c3_i32_24
  let v40 : BitVec 1 := Scalar.andi v38 v39
  let v41 : BitVec 32 := Scalar.extui v40
  let c0_i32_25 : BitVec 32 := 0#32
  let v42 : BitVec 1 := Scalar.cmpi .ne v41 c0_i32_25
  v42

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x2048x8 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x8192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .smem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]
-- ==== KernelIdeal.lean ====
variable {F : FTy → Type} [FloatOps F] [Named F]
def κ : String → Option EReal := fun
  | "inv_two_alpha_sq" => some ((16777216 / 3019899 : ℝ) : EReal)
  | _ => none
-- ==== ReferenceIdeal.lean ====
abbrev S4x8192x3 : Shape := ⟨3, ![4, 8192, 3]⟩
abbrev S_ : Shape := ⟨0, ![]⟩
abbrev S4x8192 : Shape := ⟨2, ![4, 8192]⟩
abbrev S4x8192x8192 : Shape := ⟨3, ![4, 8192, 8192]⟩
abbrev S4x8192x1 : Shape := ⟨3, ![4, 8192, 1]⟩
abbrev S4x1x8192 : Shape := ⟨3, ![4, 1, 8192]⟩
abbrev S4 : Shape := ⟨1, ![4]⟩

abbrev nBuf : Space → Nat
  | .hbm => 66
  | .vmem => 0
  | .smem => 0
  | _ => 0

abbrev bufTy : (tb : Table) → Fin (tcTables nBuf tb) → BufTy
  | .hbm, ⟨0, _⟩ => ⟨S4x8192x3, .f32⟩
  | .hbm, ⟨1, _⟩ => ⟨S4x8192x3, .f32⟩
  | .hbm, ⟨2, _⟩ => ⟨S4x8192x3, .f32⟩
  | .hbm, ⟨3, _⟩ => ⟨S4x8192x3, .f32⟩
  | .hbm, ⟨4, _⟩ => ⟨S_, .f32⟩
  | .hbm, ⟨5, _⟩ => ⟨S4x8192, .f32⟩
  | .hbm, ⟨6, _⟩ => ⟨S4x8192x3, .f32⟩
  | .hbm, ⟨7, _⟩ => ⟨S_, .f32⟩
  | .hbm, ⟨8, _⟩ => ⟨S4x8192, .f32⟩
  | .hbm, ⟨9, _⟩ => ⟨S4x8192x8192, .f32⟩
  | .hbm, ⟨10, _⟩ => ⟨S4x8192x1, .f32⟩
  | .hbm, ⟨11, _⟩ => ⟨S4x1x8192, .f32⟩
  | .hbm, ⟨12, _⟩ => ⟨S4x8192x8192, .f32⟩
  | .hbm, ⟨13, _⟩ => ⟨S4x8192x8192, .f32⟩
  | .hbm, ⟨14, _⟩ => ⟨S4x8192x8192, .f32⟩
  | .hbm, ⟨15, _⟩ => ⟨S_, .f32⟩
  | .hbm, ⟨16, _⟩ => ⟨S4x8192x8192, .f32⟩
  | .hbm, ⟨17, _⟩ => ⟨S4x8192x8192, .f32⟩
  | .hbm, ⟨18, _⟩ => ⟨S4x8192x8192, .f32⟩
  | .hbm, ⟨19, _⟩ => ⟨S_, .f32⟩
  | .hbm, ⟨20, _⟩ => ⟨S4x8192, .f32⟩
  | .hbm, ⟨21, _⟩ => ⟨S4x8192, .f32⟩
  | .hbm, ⟨22, _⟩ => ⟨S4x8192, .f32⟩
  | .hbm, ⟨23, _⟩ => ⟨S_, .f32⟩
  | .hbm, ⟨24, _⟩ => ⟨S4x8192, .f32⟩
  | .hbm, ⟨25, _⟩ => ⟨S4x8192, .f32⟩
  | .hbm, ⟨26, _⟩ => ⟨S4x8192, .f32⟩
  | .hbm, ⟨27, _⟩ => ⟨S4x8192, .f32⟩
  | .hbm, ⟨28, _⟩ => ⟨S_, .f32⟩
  | .hbm, ⟨29, _⟩ => ⟨S4, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S4x8192x3, .f32⟩
  | .hbm, ⟨35, _⟩ => ⟨S_, .f32⟩
  | .hbm, ⟨36, _⟩ => ⟨S4x8192, .f32⟩
  | .hbm, ⟨37, _⟩ => ⟨S4x8192x3, .f32⟩
  | .hbm, ⟨38, _⟩ => ⟨S_, .f32⟩
  | .hbm, ⟨39, _⟩ => ⟨S4x8192, .f32⟩
  | .hbm, ⟨40, _⟩ => ⟨S4x8192x8192, .f32⟩
  | .hbm, ⟨41, _⟩ => ⟨S4x8192x1, .f32⟩
  | .hbm, ⟨42, _⟩ => ⟨S4x1x8192, .f32⟩
  | .hbm, ⟨43, _⟩ => ⟨S4x8192x8192, .f32⟩
  | .hbm, ⟨44, _⟩ => ⟨S4x8192x8192, .f32⟩
  | .hbm, ⟨45, _⟩ => ⟨S4x8192x8192, .f32⟩
  | .hbm, ⟨46, _⟩ => ⟨S_, .f32⟩
  | .hbm, ⟨47, _⟩ => ⟨S4x8192x8192, .f32⟩
  | .hbm, ⟨48, _⟩ => ⟨S4x8192x8192, .f32⟩
  | .hbm, ⟨49, _⟩ => ⟨S4x8192x8192, .f32⟩
  | .hbm, ⟨50, _⟩ => ⟨S_, .f32⟩
  | .hbm, ⟨51, _⟩ => ⟨S4x8192, .f32⟩
  | .hbm, ⟨52, _⟩ => ⟨S4x8192, .f32⟩
  | .hbm, ⟨53, _⟩ => ⟨S4x8192, .f32⟩
  | .hbm, ⟨54, _⟩ => ⟨S_, .f32⟩
  | .hbm, ⟨55, _⟩ => ⟨S4x8192, .f32⟩
  | .hbm, ⟨56, _⟩ => ⟨S4x8192, .f32⟩
  | .hbm, ⟨57, _⟩ => ⟨S4x8192, .f32⟩
  | .hbm, ⟨58, _⟩ => ⟨S4x8192, .f32⟩
  | .hbm, ⟨59, _⟩ => ⟨S_, .f32⟩
  | .hbm, ⟨60, _⟩ => ⟨S4, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | _, _ => ⟨S4x8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_v25 : Ref sig .tc := ⟨.hbm, 37, rfl⟩
abbrev main_cst_8 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_9 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_10 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_11 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_12 : Ref sig .tc := ⟨.hbm, 59, rfl⟩
abbrev main_v43 : Ref sig .tc := ⟨.hbm, 60, rfl⟩
abbrev main_cst_13 : Ref sig .tc := ⟨.hbm, 61, rfl⟩
abbrev main_v44 : Ref sig .tc := ⟨.hbm, 62, rfl⟩
abbrev main_cst_14 : Ref sig .tc := ⟨.hbm, 63, rfl⟩
abbrev main_v45 : Ref sig .tc := ⟨.hbm, 64, rfl⟩
abbrev main_v46 : Ref sig .tc := ⟨.hbm, 65, rfl⟩

abbrev nD : Nat := 1
abbrev τ : Topo := Topo.v7x

variable {F : FTy → Type} [FloatOps F]
-- ==== Proof.Chamfer.lean ====
/- The quantity both programs compute, over the extended reals, and its walk over the sixteen grid points.

   Everything here is about a table `D b n q` of squared distances: batch `b`, target point `n`, vertex `q`.
   `weight` is the weighted distance `exp (-x² / (2α²)) · x`, `total` the sum of the weighted row minima and of the
   weighted column minima over every batch. A kernel that meets the table in blocks of 2048 rows adds `pointAdd p` at
   point `p` and carries `carriedMin p` along; `sum_pointAdd` says that the sixteen contributions sum to `total`. -/
module

public import Idealize.ShloMosaic.PureOps.Ideal
public import Idealize.ShloMosaic.PureOps.Ideal.Laws

@[expose] public section

noncomputable section

namespace Cert.Proof.Chamfer

open Idealize.ShloMosaic

/-! ## The weighted distance -/

/-- `1 / (2α²)`, the reciprocal of the single-precision number nearest `2 · 0.3 · 0.3`. -/
def invTwoAlphaSq : EReal := ((16777216 / 3019899 : ℝ) : EReal)

/-- The weighted distance as the kernel writes it: `exp ((0 - x·x) · (1 / (2α²))) · x`. -/
def weight (x : EReal) : EReal := Ideal.exp ((0 - x * x) * invTwoAlphaSq) * x

/-- The divisor `2α²`: the pattern `0x3E3851EC` denotes `3019899 / 2²⁴`. -/
theorem ofBits_twoAlphaSq : Ideal.ofBits .f32 0x3E3851EC#32 = ((3019899 / 16777216 : ℝ) : EReal) := by
  simp [Ideal.ofBits, Ideal.ieee, -EReal.coe_mul]; norm_num

/-- The pattern `0x40800000` denotes four. -/
theorem ofBits_four : Ideal.ofBits .f32 0x40800000#32 = ((4 : ℝ) : EReal) := by
  simp [Ideal.ofBits, Ideal.ieee, -EReal.coe_mul]; norm_num

/-- The pattern `0x40000000` denotes two. -/
theorem ofBits_two : Ideal.ofBits .f32 0x40000000#32 = ((2 : ℝ) : EReal) := by
  simp [Ideal.ofBits, Ideal.ieee, -EReal.coe_mul]; norm_num

/-- The pattern `0xC0000000` denotes minus two. -/
theorem ofBits_neg_two : Ideal.ofBits .f32 0xC0000000#32 = ((-2 : ℝ) : EReal) := by
  simp [Ideal.ofBits, Ideal.ieee, -EReal.coe_mul]; norm_num

/-- The pattern `0x3F800000` denotes one. -/
theorem ofBits_one : Ideal.ofBits .f32 0x3F800000#32 = ((1 : ℝ) : EReal) := by
  simp [Ideal.ofBits, Ideal.ieee, -EReal.coe_mul]; norm_num

/-- The pattern `0x7F800000` denotes plus infinity. -/
theorem ofBits_top : Ideal.ofBits .f32 0x7F800000#32 = ⊤ := by
  simp [Ideal.ofBits, Ideal.ieee]

/-- The weighted distance as the reference writes it: a negation for the kernel's subtraction from zero, a division by
    `2α²` for the kernel's product. -/
theorem weight_of_div (x : EReal) :
    Ideal.exp (Ideal.div (-(x * x)) (Ideal.ofBits .f32 0x3E3851EC#32)) * x = weight x := by
  rw [ofBits_twoAlphaSq, Ideal.div_coe (by norm_num), weight, invTwoAlphaSq, zero_sub]
  norm_num

/-- Division by four distributes over a sum of extended reals. -/
theorem div_four_add (x y : EReal) :
    Ideal.div (x + y) (Ideal.ofBits .f32 0x40800000#32)
      = Ideal.div x (Ideal.ofBits .f32 0x40800000#32) + Ideal.div y (Ideal.ofBits .f32 0x40800000#32) := by
  rw [ofBits_four, Ideal.div_coe (by norm_num), Ideal.div_coe (by norm_num), Ideal.div_coe (by norm_num)]
  refine EReal.right_distrib_of_nonneg_of_ne_top ?_ (EReal.coe_ne_top _) x y
  exact_mod_cast (by norm_num : (0 : ℝ) ≤ 1 / 4)

/-! ## Minima and the total -/

/-- A fold of `min` from plus infinity over a finite set is the infimum over it. -/
theorem fold_min_top {ι : Type*} [Fintype ι] (f : ι → EReal) :
    Finset.univ.fold min (Ideal.ofBits .f32 0x7F800000#32) f = Finset.univ.inf f := by
  rw [ofBits_top]; rfl

variable (D : Fin 4 → Fin 8192 → Fin 8192 → EReal)

/-- The distance from target point `n` to its nearest vertex. -/
def rowMin (b : Fin 4) (n : Fin 8192) : EReal := Finset.univ.inf fun q => D b n q

/-- The distance from vertex `q` to its nearest target point. -/
def colMin (b : Fin 4) (q : Fin 8192) : EReal := Finset.univ.inf fun n => D b n q

/-- The sum, over the batches, of the weighted row minima and the weighted column minima. -/
def total : EReal := ∑ b : Fin 4, (∑ n, weight (rowMin D b n) + ∑ q, weight (colMin D b q))

/-! ## The same, point by point of the grid -/

/-- The batch that grid point `p` works on. -/
def batch (p : ℕ) : Fin 4 := ⟨p / 4 % 4, Nat.mod_lt _ (by decide)⟩

/-- The target point in row `r` of grid point `p`'s block of 2048. -/
def row (p : ℕ) (r : Fin 2048) : Fin 8192 := ⟨p % 4 * 2048 + r, by omega⟩

/-- What point `p` adds for its rows: the weighted row minima of its block. -/
def pointRows (p : ℕ) : EReal := ∑ r, weight (rowMin D (batch p) (row p r))

/-- The minimum of column `q` over point `p`'s block. -/
def pointMin (p : ℕ) (q : Fin 8192) : EReal := Finset.univ.inf fun r => D (batch p) (row p r) q

/-- The minimum of column `q` over the blocks of point `p`'s batch that have been met up to point `p`. -/
def carriedMin (p : ℕ) (q : Fin 8192) : EReal :=
  (Finset.range (p % 4 + 1)).inf fun i => pointMin D (4 * (p / 4) + i) q

/-- What point `p` adds: its rows and, at the last block of a batch, the weighted column minima carried so far. -/
def pointAdd (p : ℕ) : EReal :=
  pointRows D p + if p % 4 = 3 then ∑ q, weight (carriedMin D p q) else 0

/-- At the first block of a batch the carried minimum is the block's own. -/
theorem carriedMin_first (p : ℕ) (h : p % 4 = 0) (q : Fin 8192) : carriedMin D p q = min ⊤ (pointMin D p q) := by
  have e : 4 * (p / 4) = p := by omega
  simp [carriedMin, h, e]

/-- At a later block the carried minimum is the one before met with the block's own. -/
theorem carriedMin_next (p : ℕ) (h : ¬p % 4 = 0) (q : Fin 8192) :
    carriedMin D p q = min (carriedMin D (p - 1) q) (pointMin D p q) := by
  have e₁ : (p - 1) % 4 + 1 = p % 4 := by omega
  have e₂ : (p - 1) / 4 = p / 4 := by omega
  have e₃ : 4 * (p / 4) + p % 4 = p := by omega
  unfold carriedMin
  rw [e₁, e₂, Finset.range_add_one, Finset.inf_insert, e₃, inf_comm]

/-- After a batch's last block the carried minimum is the column minimum over all its 8192 rows. -/
theorem carriedMin_last (p : ℕ) (h : p % 4 = 3) (q : Fin 8192) : carriedMin D p q = colMin D (batch p) q := by
  have hb (i : ℕ) (hi : i < 4) : batch (4 * (p / 4) + i) = batch p := by
    apply Fin.ext; show (4 * (p / 4) + i) / 4 % 4 = p / 4 % 4; omega
  apply le_antisymm
  · refine Finset.le_inf fun n _ => ?_
    have hn : (n : ℕ) < 8192 := n.isLt
    refine (Finset.inf_le (Finset.mem_range.mpr (by omega : (n : ℕ) / 2048 < p % 4 + 1))).trans ?_
    refine (Finset.inf_le (Finset.mem_univ (⟨n % 2048, Nat.mod_lt _ (by decide)⟩ : Fin 2048))).trans (le_of_eq ?_)
    rw [hb _ (by omega)]
    congr 1
    apply Fin.ext; show (4 * (p / 4) + (n : ℕ) / 2048) % 4 * 2048 + (n : ℕ) % 2048 = n; omega
  · refine Finset.le_inf fun i hi => Finset.le_inf fun r _ => ?_
    rw [hb i (by have := Finset.mem_range.mp hi; omega)]
    exact Finset.inf_le (Finset.mem_univ _)

/-- A sum over 8192 rows is the sum over four blocks of 2048. -/
theorem sum_rows (f : Fin 8192 → EReal) (b : ℕ) :
    ∑ n, f n = ∑ i : Fin 4, ∑ r : Fin 2048, f (row (4 * b + i) r) := by
  rw [← Fintype.sum_prod_type' (f := fun (i : Fin 4) (r : Fin 2048) => f (row (4 * b + i) r))]
  refine (Fintype.sum_equiv (finProdFinEquiv (m := 4) (n := 2048)) _ _ fun x => ?_).symm
  congr 1
  apply Fin.ext
  show (4 * b + (x.1 : ℕ)) % 4 * 2048 + (x.2 : ℕ) = _
  have := x.1.isLt
  simp only [finProdFinEquiv_apply_val]
  omega

/-- What the four points of batch `b` add: the batch's share of the total. -/
theorem sum_batch (b : ℕ) (hb : b < 4) :
    ∑ i : Fin 4, pointAdd D (4 * b + i)
      = ∑ n, weight (rowMin D ⟨b, hb⟩ n) + ∑ q, weight (colMin D ⟨b, hb⟩ q) := by
  have e (i : ℕ) (hi : i < 4) : batch (4 * b + i) = ⟨b, hb⟩ := by
    apply Fin.ext; show (4 * b + i) / 4 % 4 = b; omega
  have hc : ∑ q, weight (carriedMin D (4 * b + 3) q) = ∑ q, weight (colMin D ⟨b, hb⟩ q) := by
    refine Finset.sum_congr rfl fun q _ => ?_
    rw [carriedMin_last D _ (by omega), e 3 (by omega)]
  rw [sum_rows (fun n => weight (rowMin D ⟨b, hb⟩ n)) b, ← hc]
  have hr (i : Fin 4) : ∑ r : Fin 2048, weight (rowMin D ⟨b, hb⟩ (row (4 * b + i) r)) = pointRows D (4 * b + i) := by
    rw [pointRows, e i i.isLt]
  simp only [hr, Fin.sum_univ_four, pointAdd]
  have m (i : ℕ) (hi : i < 4) : (4 * b + i) % 4 = i := by omega
  simp only [Fin.val_zero, Fin.val_one, Fin.val_two, show ((3 : Fin 4) : ℕ) = 3 from rfl,
    m 0 (by omega), m 1 (by omega), m 2 (by omega), m 3 (by omega)]
  norm_num
  abel

/-- The sixteen contributions sum to the total. -/
theorem sum_pointAdd : ∑ p ∈ Finset.range 16, pointAdd D p = total D := by
  rw [total, Fin.sum_univ_four, show (0 : Fin 4) = ⟨0, by decide⟩ from rfl, show (1 : Fin 4) = ⟨1, by decide⟩ from rfl,
    show (2 : Fin 4) = ⟨2, by decide⟩ from rfl, show (3 : Fin 4) = ⟨3, by decide⟩ from rfl,
    ← sum_batch, ← sum_batch, ← sum_batch, ← sum_batch]
  simp only [Finset.sum_range_succ, Finset.sum_range_zero, Fin.sum_univ_four, Fin.val_zero, Fin.val_one, Fin.val_two,
    show ((3 : Fin 4) : ℕ) = 3 from rfl]
  norm_num
  abel

end Cert.Proof.Chamfer

end
-- ==== Proof.Payloads.lean ====
/- What one grid point of the kernel computes, over the extended reals: each of the body's pure values at an index. -/
module

public import proofs.«01_k».proof.Proof.Chamfer
public import proofs.«01_k».proof.Proof.Gen.KernelIdeal.Skeleton
public import Idealize.ShloMosaic.Lib.Pointwise

@[expose] public section

set_option maxRecDepth 16384

noncomputable section

namespace Cert.Proof.Payloads

open Cert.KernelIdeal Cert.KernelIdeal.Gen Idealize.ShloMosaic
open Cert.Proof.Chamfer

/-- The named constant is `1 / (2α²)`. -/
theorem named_const_eq : Named.named (F := Ideal) (φ := .f32) κ "inv_two_alpha_sq" 0x40B1C71C#32 = invTwoAlphaSq :=
  IdealRules.named_const.ideal_named_scalar _ _ _ _ rfl

/-- The weighted distances of 2048 rows, as the body spells them. -/
def weighRows (r : FVec Ideal S2048 .f32) : FVec Ideal S2048 .f32 :=
  mulf (exp (mulf (subf (broadcast S2048 (Scalar.ofBits .f32 0x00000000#32)) (mulf r r))
    (broadcast S2048 (Named.named κ "inv_two_alpha_sq" 0x40B1C71C#32)))) r

/-- The sum of 2048 values, as the body spells it. -/
def sumRows (v : FVec Ideal S2048 .f32) : Ideal .f32 :=
  extractAt ![0, 0] (shapeCast S1x1 (multiReduction .add [1] S1 (shapeCast S1x2048 v shapeCasts_S2048_S1x2048)
    0x00000000#32 reduces_S1x2048_S1 (.inl rfl) rfl) shapeCasts_S1_S1x1) inpos_S1x1_p0_0

/-- The least entry of each row of a block's table, as the body spells it. -/
def minRows (D : FVec Ideal S2048x8192 .f32) : FVec Ideal S2048 .f32 :=
  multiReduction .minimumf [1] S2048 D 0x7F800000#32 reduces_S2048x8192_S2048 (.inl rfl) rfl

/-- An entry is its distance's `weight`. -/
theorem weighRows_apply (r : FVec Ideal S2048 .f32) (i : Fin 2048) : weighRows r (ix1 i) = weight (r (ix1 i)) := by
  pointwise [weighRows]
  rw [named_const_eq]; rfl

/-- It is the sum of the entries. -/
theorem sumRows_eq (v : FVec Ideal S2048 .f32) : sumRows v = ∑ i : Fin 2048, v (ix1 i) := by
  pointwise [sumRows]

/-- A row's least entry is its infimum. -/
theorem minRows_apply (D : FVec Ideal S2048x8192 .f32) (i : Fin 2048) :
    minRows D (ix1 i) = Finset.univ.inf fun q => D (ix2 i q) := by
  pointwise [minRows]
  exact fold_min_top _

/-- The block's table: an entry is the product of a row of the left operand with a column of the right one. -/
theorem table_apply (x : Vec Ideal S1x2048x8 .bf16) (y : Vec Ideal S1x8x8192 .bf16) (r : Fin 2048) (q : Fin 8192) :
    k0_pay5 (F := Ideal) x y (ix2 r q) = ∑ k : Fin 8, x (ix3 0 r k) * y (ix3 0 k q) := by
  pointwise [k0_pay5]

/-- The accumulator after a block's rows: the weighted row minima added to it. -/
theorem rows_eq (x : Vec Ideal S1x2048x8 .bf16) (y : Vec Ideal S1x8x8192 .bf16) (a : EReal) :
    k0_pay6 (F := Ideal) x y a
      = a + ∑ r : Fin 2048, weight (Finset.univ.inf fun q => k0_pay5 (F := Ideal) x y (ix2 r q)) := by
  have e : k0_pay6 (F := Ideal) x y a = a + sumRows (weighRows (minRows (k0_pay5 (F := Ideal) x y))) := rfl
  rw [e, sumRows_eq]
  simp only [weighRows_apply, minRows_apply]

/-- The carried column minima after a block: met with the block's own. -/
theorem mins_apply (x : Vec Ideal S1x2048x8 .bf16) (y : Vec Ideal S1x8x8192 .bf16) (a : Vec Ideal S1x8192 .f32) (q : Fin 8192) :
    k0_pay1 (F := Ideal) (k0_pay7 (F := Ideal) x y a) (ix2 0 q)
      = min (a (ix2 0 q)) (Finset.univ.inf fun r => k0_pay5 (F := Ideal) x y (ix2 r q)) := by
  pointwise [k0_pay7, k0_pay1]
  rw [fold_min_top]

/-- The carried column minima start at plus infinity. -/
theorem mins_start (q : Fin 8192) : k0_pay4 (F := Ideal) (ix2 0 q) = ⊤ := by
  pointwise [k0_pay4]
  exact ofBits_top

/-- The accumulator after a batch's last block: the weighted column minima added to it. -/
theorem cols_eq (v : Vec Ideal S1x8192 .f32) (a : EReal) :
    k0_pay2 (F := Ideal) v a = a + ∑ q : Fin 8192, weight (v (ix2 0 q)) := by
  pointwise [k0_pay2]
  rw [named_const_eq]; rfl

/-- The result: a quarter of the accumulator. -/
theorem quarter_eq (a : EReal) : k0_pay3 (F := Ideal) a = Ideal.div a (Ideal.ofBits .f32 0x40800000#32) := by
  pointwise [k0_pay3]

end Cert.Proof.Payloads

end
-- ==== Proof.Distance.lean ====
/- The table of squared distances that both programs reduce, over the extended reals.

   `sqDist T V b n q` is `|t|² + |v|² - 2 t·v` for target point `t = T[b, n]` and vertex `v = V[b, q]`, three coordinates
   each. `sqDist_swap` says that it does not matter which cloud comes first; `sqDist_coe` reads it at real coordinates. -/
module

public import proofs.«01_k».proof.Proof.Chamfer
public import Idealize.ShloMosaic.Lib.Pointwise

@[expose] public section

noncomputable section

namespace Cert.Proof.Distance

open Idealize.ShloMosaic Cert.Proof.Chamfer

/-- A cloud of 8192 points per batch: an extended real for each batch, point and coordinate. -/
abbrev Cloud : Type := (⟨3, ![4, 8192, 3]⟩ : Shape).Idx → EReal

/-- `|t|² + |v|² - 2 t·v`, the two being point `n` of `T` and point `q` of `V` in batch `b`. -/
def sqDist (T V : Cloud) (b : Fin 4) (n q : Fin 8192) : EReal :=
  (∑ k : Fin 3, T (ix3 b n k) * T (ix3 b n k)) + (∑ k : Fin 3, V (ix3 b q k) * V (ix3 b q k))
    - Ideal.ofBits .f32 0x40000000#32 * ∑ k : Fin 3, T (ix3 b n k) * V (ix3 b q k)

/-- Exchanging the clouds transposes the table. -/
theorem sqDist_swap (T V : Cloud) (b : Fin 4) (n q : Fin 8192) : sqDist V T b q n = sqDist T V b n q := by
  unfold sqDist
  rw [add_comm (∑ k : Fin 3, V (ix3 b q k) * V (ix3 b q k))]
  simp only [mul_comm (V (ix3 b q _)) (T (ix3 b n _))]

/-- At real coordinates the distance is the real number that the formula reads. -/
theorem sqDist_coe (T V : Cloud) (t v : Fin 3 → ℝ) (b : Fin 4) (n q : Fin 8192)
    (hT : ∀ k, T (ix3 b n k) = (t k : EReal)) (hV : ∀ k, V (ix3 b q k) = (v k : EReal)) :
    sqDist T V b n q
      = (((t 0 * t 0 + t 1 * t 1 + t 2 * t 2) + (v 0 * v 0 + v 1 * v 1 + v 2 * v 2)
          - 2 * (t 0 * v 0 + t 1 * v 1 + t 2 * v 2) : ℝ) : EReal) := by
  unfold sqDist
  rw [ofBits_two]
  simp only [hT, hV, Fin.sum_univ_three]
  push_cast
  rfl

end Cert.Proof.Distance

end
-- ==== Proof.Operands.lean ====
/- The kernel's two augmented operands, over the extended reals.

   Before the grid runs, each cloud is widened from three columns to eight: the targets to `-2 t`, `|t|²` rounded, what the
   rounding left, one, one, zero; the vertices to `v`, one, one, `|v|²` rounded, what the rounding left, zero. Over the
   extended reals a rounding changes nothing, so at real coordinates what it leaves is zero and a row of the one against a
   row of the other is the squared distance (`product_eq`). `left_block` and `right_block` say which part of the operands a
   grid point reads. -/
module

public import proofs.«01_k».proof.Proof.Distance
public import proofs.«01_k».proof.Proof.Gen.KernelIdeal.Frame
public import Idealize.ShloMosaic.Lib.Pipeline.ValueKit

@[expose] public section

set_option maxRecDepth 16384

noncomputable section

namespace Cert.Proof.Operands

open Cert.KernelIdeal Cert.KernelIdeal.Gen Idealize.ShloMosaic Idealize.ShloMosaic.TcCoe Idealize.SL.Sem
open Cert.Proof.Chamfer Cert.Proof.Distance

/-- The squared length of each point of a cloud. -/
def squares (X : FVec Ideal S4x8192x3 .f32) : FVec Ideal S4x8192x1 .f32 :=
  broadcastInDim S4x8192x1 ![0, 1] bcast_S4x8192_S4x8192x1_0_1
    (Host.reduceAdd (mulf X X) (constant S_ .f32 0x00000000#32) reducesTo_S4x8192x3_S4x8192_d2 h_S_)

/-- What is left of a column once its rounding is taken away from it. -/
def residue (s : FVec Ideal S4x8192x1 .f32) : FVec Ideal S4x8192x1 .f32 :=
  subf s (extf .f32 (truncf .bf16 s bitsLt_bf16_f32) bitsLt_bf16_f32)

/-- A column that holds one value. -/
def column (b : BitVec 32) : FVec Ideal S4x8192x1 .f32 :=
  broadcastInDim S4x8192x1 ![] bcast_S_S4x8192x1 (constant S_ .f32 b)

/-- Minus twice each coordinate of a cloud. -/
def negTwice (X : FVec Ideal S4x8192x3 .f32) : FVec Ideal S4x8192x3 .f32 :=
  mulf (broadcastInDim S4x8192x3 ![] bcast_S_S4x8192x3 (constant S_ .f32 0xC0000000#32)) X

/-- Eight columns from a cloud's three and five more. -/
def augmented (X : FVec Ideal S4x8192x3 .f32) (a b d e f : FVec Ideal S4x8192x1 .f32) : FVec Ideal S4x8192x8 .f32 :=
  concatenate S4x8192x8 2 [⟨S4x8192x3, X⟩, ⟨S4x8192x1, a⟩, ⟨S4x8192x1, b⟩, ⟨S4x8192x1, d⟩, ⟨S4x8192x1, e⟩, ⟨S4x8192x1, f⟩]
    concatenates_S4x8192x3_S4x8192x1_S4x8192x1_S4x8192x1_S4x8192x1_S4x8192x1_S4x8192x8_d2

/-- The left operand, from the targets. -/
def leftOf (T : FVec Ideal S4x8192x3 .f32) : FVec Ideal S4x8192x8 .bf16 :=
  truncf .bf16 (augmented (negTwice T) (extf .f32 (truncf .bf16 (squares T) bitsLt_bf16_f32) bitsLt_bf16_f32)
    (residue (squares T)) (column 0x3F800000#32) (column 0x3F800000#32) (column 0x00000000#32)) bitsLt_bf16_f32

/-- The right operand, from the vertices. -/
def rightOf (V : FVec Ideal S4x8192x3 .f32) : FVec Ideal S4x8x8192 .bf16 :=
  truncf .bf16 (transpose S4x8x8192 [0, 2, 1] (augmented V (column 0x3F800000#32) (column 0x3F800000#32)
    (extf .f32 (truncf .bf16 (squares V) bitsLt_bf16_f32) bitsLt_bf16_f32) (residue (squares V)) (column 0x00000000#32))
    transposes_S4x8192x8_S4x8x8192_0_2_1) bitsLt_bf16_f32

/-- An entry is the sum of its point's three squares. -/
theorem squares_apply (X : FVec Ideal S4x8192x3 .f32) (b : Fin 4) (n : Fin 8192) :
    squares X (ix3 b n 0) = ∑ k : Fin 3, X (ix3 b n k) * X (ix3 b n k) := by
  pointwise [squares]

/-- Over the extended reals a rounding is the identity, so an entry's residue is the entry less itself. -/
theorem residue_apply (s : FVec Ideal S4x8192x1 .f32) (i : S4x8192x1.Idx) : residue s i = s i - s i := rfl

/-- Every entry is the one value. -/
theorem column_apply (w : BitVec 32) (i : S4x8192x1.Idx) : column w i = Ideal.ofBits .f32 w := by
  pointwise [column]

/-- An entry is minus two times the coordinate. -/
theorem negTwice_apply (X : FVec Ideal S4x8192x3 .f32) (i : S4x8192x3.Idx) :
    negTwice X i = Ideal.ofBits .f32 0xC0000000#32 * X i := by
  pointwise [negTwice]

/-- The sum over eight columns against eight columns, each side an augmented cloud. -/
theorem sum_augmented (X Y : FVec Ideal S4x8192x3 .f32) (a b d e f a' b' d' e' f' : FVec Ideal S4x8192x1 .f32)
    (i : Fin 4) (n q : Fin 8192) :
    ∑ k : Fin 8, augmented X a b d e f (ix3 i n k) * augmented Y a' b' d' e' f' (ix3 i q k)
      = X (ix3 i n 0) * Y (ix3 i q 0) + X (ix3 i n 1) * Y (ix3 i q 1) + X (ix3 i n 2) * Y (ix3 i q 2)
        + a (ix3 i n 0) * a' (ix3 i q 0) + b (ix3 i n 0) * b' (ix3 i q 0) + d (ix3 i n 0) * d' (ix3 i q 0)
        + e (ix3 i n 0) * e' (ix3 i q 0) + f (ix3 i n 0) * f' (ix3 i q 0) := by
  rw [Fin.sum_univ_eight]
  have h (X : FVec Ideal S4x8192x3 .f32) (a b d e f : FVec Ideal S4x8192x1 .f32) (n : Fin 8192) :
      augmented X a b d e f (ix3 i n 0) = X (ix3 i n 0) ∧ augmented X a b d e f (ix3 i n 1) = X (ix3 i n 1)
        ∧ augmented X a b d e f (ix3 i n 2) = X (ix3 i n 2) ∧ augmented X a b d e f (ix3 i n 3) = a (ix3 i n 0)
        ∧ augmented X a b d e f (ix3 i n 4) = b (ix3 i n 0) ∧ augmented X a b d e f (ix3 i n 5) = d (ix3 i n 0)
        ∧ augmented X a b d e f (ix3 i n 6) = e (ix3 i n 0) ∧ augmented X a b d e f (ix3 i n 7) = f (ix3 i n 0) := by
    refine ⟨?_, ?_, ?_, ?_, ?_, ?_, ?_, ?_⟩ <;> pointwise [augmented]
  obtain ⟨h0, h1, h2, h3, h4, h5, h6, h7⟩ := h X a b d e f n
  obtain ⟨g0, g1, g2, g3, g4, g5, g6, g7⟩ := h Y a' b' d' e' f' q
  rw [h0, h1, h2, h3, h4, h5, h6, h7, g0, g1, g2, g3, g4, g5, g6, g7]

/-- The product of the operands at real coordinates: every residue vanishes, and what is left is the squared distance. -/
theorem product_eq (T V : FVec Ideal S4x8192x3 .f32) (hT : ∀ i, ∃ r : ℝ, T i = (r : EReal))
    (hV : ∀ i, ∃ r : ℝ, V i = (r : EReal)) (b : Fin 4) (n q : Fin 8192) :
    ∑ k : Fin 8, leftOf T (ix3 b n k) * rightOf V (ix3 b k q) = sqDist T V b n q := by
  choose t ht using fun k : Fin 3 => hT (ix3 b n k)
  choose v hv using fun k : Fin 3 => hV (ix3 b q k)
  have hr (k : Fin 8) : rightOf V (ix3 b k q) = augmented V (column 0x3F800000#32) (column 0x3F800000#32)
      (extf .f32 (truncf .bf16 (squares V) bitsLt_bf16_f32) bitsLt_bf16_f32) (residue (squares V)) (column 0x00000000#32)
      (ix3 b q k) := by
    pointwise [rightOf]
  have hst : squares T (ix3 b n 0) = ((t 0 * t 0 + t 1 * t 1 + t 2 * t 2 : ℝ) : EReal) := by
    rw [squares_apply, Fin.sum_univ_three, ht, ht, ht]; norm_cast
  have hsv : squares V (ix3 b q 0) = ((v 0 * v 0 + v 1 * v 1 + v 2 * v 2 : ℝ) : EReal) := by
    rw [squares_apply, Fin.sum_univ_three, hv, hv, hv]; norm_cast
  have hrd (s : FVec Ideal S4x8192x1 .f32) (i : S4x8192x1.Idx) :
      (extf .f32 (truncf .bf16 s bitsLt_bf16_f32) bitsLt_bf16_f32 : FVec Ideal S4x8192x1 .f32) i = s i := rfl
  simp only [hr]
  refine (sum_augmented (negTwice T) V _ _ _ _ _ _ _ _ _ _ b n q).trans ?_
  rw [sqDist_coe T V t v b n q ht hv]
  simp only [hrd, residue_apply, column_apply, negTwice_apply, ht, hv, hst, hsv, ofBits_neg_two, ofBits_one,
    Ideal.ofBits_zero_f32, mul_zero, add_zero]
  simp only [← EReal.coe_mul, ← EReal.coe_add, ← EReal.coe_sub, EReal.coe_eq_coe_iff]
  ring

variable (m : (ℓ : Loc nD τ sig) → Buf (Elt Ideal) ℓ) (c : Dev nD)

/-- The array that the grid reads as its left operand. -/
theorem left_eq : (V m c main_v21 : FVec Ideal S4x8192x8 .bf16) = leftOf (m ((c.tc : Thread nD τ).loc main_arg1)) := by
  show StableHlo.after hostOps0 (fun b => m (c, b)) (Proc.devRef .tc main_v21) = _
  after_results
  rfl

/-- The array that the grid reads as its right operand. -/
theorem right_eq : (V m c main_v22 : FVec Ideal S4x8x8192 .bf16) = rightOf (m ((c.tc : Thread nD τ).loc main_arg0)) := by
  show StableHlo.after hostOps0 (fun b => m (c, b)) (Proc.devRef .tc main_v22) = _
  after_results
  rfl

/-- Where each input window's block lies at a grid point: batch `t / 4`, and for the left operand its rows' block `t % 4`. -/
theorem idx : ∀ t : Fin cfg0.N, win0_0.index t = ![t.val / 4, t.val % 4, 0] ∧ win0_1.index t = ![t.val / 4, 0, 0] :=
  (by decide +kernel : ∀ t : Fin grid0.N, _)

/-- The batch's number, at one of the sixteen points. -/
theorem batch_val (p : ℕ) (h : p < 16) : (batch p : ℕ) = p / 4 := Nat.mod_eq_of_lt (by omega)

/-- A block's row in the whole array. -/
theorem row_val (p : ℕ) (r : Fin 2048) : (row p r : ℕ) = p % 4 * 2048 + r := rfl

/-- The left block at point `t`: 2048 rows of the left operand. -/
theorem left_block (t : Fin cfg0.N) (r : Fin 2048) (k : Fin 8) :
    (iblk m c 0 t : Vec Ideal S1x2048x8 .bf16) (ix3 0 r k)
      = leftOf (m ((c.tc : Thread nD τ).loc main_arg1)) (ix3 (batch t.val) (row t.val r) k) := by
  have ht : t.val < 16 := lt_of_lt_of_eq t.isLt N_0
  rw [← left_eq m c]
  blk_ext! [iblk, idx t]
  · rw [batch_val _ ht, add_zero]
  · rw [row_val]

/-- The right block at point `t`: the whole of the batch's right operand. -/
theorem right_block (t : Fin cfg0.N) (k : Fin 8) (q : Fin 8192) :
    (iblk m c 1 t : Vec Ideal S1x8x8192 .bf16) (ix3 0 k q)
      = rightOf (m ((c.tc : Thread nD τ).loc main_arg0)) (ix3 (batch t.val) k q) := by
  have ht : t.val < 16 := lt_of_lt_of_eq t.isLt N_0
  rw [← right_eq m c]
  blk_ext! [iblk, idx t]
  rw [batch_val _ ht, add_zero]

end Cert.Proof.Operands

end
-- ==== Proof.Recursion.lean ====
/- What each grid point leaves in the two carried buffers and in the output, from what the point before left.

   The grid has 16 points, four to a batch. `prevMins` and `prevAcc` are what the point before left: the column minima and
   the accumulator. A batch's first point starts its minima afresh, the first point of all starts the accumulator at zero,
   a batch's last point also adds its weighted column minima, and the last point of all writes the result. -/
module

public import proofs.«01_k».proof.Proof.Gen.KernelIdeal.Frame
public import Idealize.ShloMosaic.Lib.Pipeline.ValueKit
public import Idealize.ShloMosaic.Lib.Pointwise

@[expose] public section

set_option maxRecDepth 16384

noncomputable section

namespace Cert.Proof.Recursion

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

/-- Reading the minima's buffer whole is what was last put there whole. -/
theorem read_mins (v : Vec Ideal S1x8192 .f32) :
    View.read (Elt Ideal) (View.whole cc0_scratch0) ((Memref.isWhole_whole cc0_scratch0).unread v) = v :=
  (Memref.isWhole_whole cc0_scratch0).read_unread v

/-- Reading the accumulator's buffer whole is what was last put there whole. -/
theorem read_acc (v : Vec Ideal S1x1 .f32) :
    View.read (Elt Ideal) (View.whole cc0_scratch1) ((Memref.isWhole_whole cc0_scratch1).unread v) = v :=
  (Memref.isWhole_whole cc0_scratch1).read_unread v

/-- A one-by-one array has one index. -/
theorem first_eq (h : 0 < S1x1.numel) : Shape.Idx.first h = (ix2 0 0 : S1x1.Idx) := by
  funext i
  match i with
  | ⟨0, _⟩ => rfl
  | ⟨1, _⟩ => rfl

/-- The column minima that the point before `t` left. -/
abbrev prevMins (c : Dev nD) (t : Fin cfg0.N) : Vec Ideal S1x8192 .f32 :=
  (outsAt0 m c (t.val - 1) (Nat.lt_of_le_of_lt (Nat.sub_le _ _) t.isLt)).2.1

/-- The accumulator that the point before `t` left. -/
abbrev prevAcc (c : Dev nD) (t : Fin cfg0.N) : Vec Ideal S1x1 .f32 :=
  (outsAt0 m c (t.val - 1) (Nat.lt_of_le_of_lt (Nat.sub_le _ _) t.isLt)).2.2

/-- The grid's first point starts the column minima and meets them with its block's. -/
theorem mins_A (c : Dev nD) (t : Fin cfg0.N) (h0 : t.val % 16 = 0) (h1 : t.val % 4 = 0) (h2 : ¬t.val % 4 = 3) (h3 : ¬t.val % 16 = 15) :
    (outsAt0 m c t.val t.isLt).2.1
      = k0_pay1 (F := Ideal) (k0_pay7 (F := Ideal) (iblk m c 0 t) (iblk m c 1 t) (k0_pay4 (F := Ideal))) := by
  funext j
  rw [outsAt0_A m c t h0 h1 h2 h3]
  frame_out

/-- The grid's first point starts the accumulator at zero and adds its rows' part. -/
theorem acc_A (c : Dev nD) (t : Fin cfg0.N) (h0 : t.val % 16 = 0) (h1 : t.val % 4 = 0) (h2 : ¬t.val % 4 = 3) (h3 : ¬t.val % 16 = 15) (j : S1x1.Idx) :
    (outsAt0 m c t.val t.isLt).2.2 j
      = k0_pay6 (F := Ideal) (iblk m c 0 t) (iblk m c 1 t) (Ideal.ofBits .f32 0x00000000#32) := by
  rw [outsAt0_A m c t h0 h1 h2 h3]
  frame_out
  rfl

/-- A middle point of a batch meets the carried column minima with its block's. -/
theorem mins_B (c : Dev nD) (t : Fin cfg0.N) (h0 : ¬t.val % 16 = 0) (h1 : ¬t.val % 4 = 0) (h2 : ¬t.val % 4 = 3) (h3 : ¬t.val % 16 = 15) :
    (outsAt0 m c t.val t.isLt).2.1
      = k0_pay1 (F := Ideal) (k0_pay7 (F := Ideal) (iblk m c 0 t) (iblk m c 1 t) (prevMins m c t)) := by
  funext j
  rw [outsAt0_B m c t h0 h1 h2 h3]
  frame_out
  rw [read_mins]

/-- A middle point of a batch adds its rows' part to the carried accumulator. -/
theorem acc_B (c : Dev nD) (t : Fin cfg0.N) (h0 : ¬t.val % 16 = 0) (h1 : ¬t.val % 4 = 0) (h2 : ¬t.val % 4 = 3) (h3 : ¬t.val % 16 = 15) (j : S1x1.Idx) :
    (outsAt0 m c t.val t.isLt).2.2 j
      = k0_pay6 (F := Ideal) (iblk m c 0 t) (iblk m c 1 t) (prevAcc m c t (ix2 0 0)) := by
  rw [outsAt0_B m c t h0 h1 h2 h3]
  frame_out
  simp only [read_mins, read_acc, first_eq]

/-- So does the last point of a batch that is not the last batch. -/
theorem mins_C (c : Dev nD) (t : Fin cfg0.N) (h0 : ¬t.val % 16 = 0) (h1 : ¬t.val % 4 = 0) (h2 : t.val % 4 = 3) (h3 : ¬t.val % 16 = 15) :
    (outsAt0 m c t.val t.isLt).2.1
      = k0_pay1 (F := Ideal) (k0_pay7 (F := Ideal) (iblk m c 0 t) (iblk m c 1 t) (prevMins m c t)) := by
  funext j
  rw [outsAt0_C m c t h0 h1 h2 h3]
  frame_out
  rw [read_mins]

/-- The last point of a batch that is not the last adds its rows' part, then its batch's columns' part. -/
theorem acc_C (c : Dev nD) (t : Fin cfg0.N) (h0 : ¬t.val % 16 = 0) (h1 : ¬t.val % 4 = 0) (h2 : t.val % 4 = 3) (h3 : ¬t.val % 16 = 15) (j : S1x1.Idx) :
    (outsAt0 m c t.val t.isLt).2.2 j
      = k0_pay2 (F := Ideal) (k0_pay1 (F := Ideal) (k0_pay7 (F := Ideal) (iblk m c 0 t) (iblk m c 1 t) (prevMins m c t)))
        (k0_pay6 (F := Ideal) (iblk m c 0 t) (iblk m c 1 t) (prevAcc m c t (ix2 0 0))) := by
  rw [outsAt0_C m c t h0 h1 h2 h3]
  frame_out
  simp only [read_mins, read_acc, first_eq]

/-- The first point of a later batch starts the column minima afresh. -/
theorem mins_D (c : Dev nD) (t : Fin cfg0.N) (h0 : ¬t.val % 16 = 0) (h1 : t.val % 4 = 0) (h2 : ¬t.val % 4 = 3) (h3 : ¬t.val % 16 = 15) :
    (outsAt0 m c t.val t.isLt).2.1
      = k0_pay1 (F := Ideal) (k0_pay7 (F := Ideal) (iblk m c 0 t) (iblk m c 1 t) (k0_pay4 (F := Ideal))) := by
  funext j
  rw [outsAt0_D m c t h0 h1 h2 h3]
  frame_out

/-- The first point of a later batch adds its rows' part to the carried accumulator. -/
theorem acc_D (c : Dev nD) (t : Fin cfg0.N) (h0 : ¬t.val % 16 = 0) (h1 : t.val % 4 = 0) (h2 : ¬t.val % 4 = 3) (h3 : ¬t.val % 16 = 15) (j : S1x1.Idx) :
    (outsAt0 m c t.val t.isLt).2.2 j
      = k0_pay6 (F := Ideal) (iblk m c 0 t) (iblk m c 1 t) (prevAcc m c t (ix2 0 0)) := by
  rw [outsAt0_D m c t h0 h1 h2 h3]
  frame_out
  simp only [read_mins, read_acc, first_eq]

/-- The grid's last point meets the carried column minima with its block's. -/
theorem mins_E (c : Dev nD) (t : Fin cfg0.N) (h0 : ¬t.val % 16 = 0) (h1 : ¬t.val % 4 = 0) (h2 : t.val % 4 = 3) (h3 : t.val % 16 = 15) :
    (outsAt0 m c t.val t.isLt).2.1
      = k0_pay1 (F := Ideal) (k0_pay7 (F := Ideal) (iblk m c 0 t) (iblk m c 1 t) (prevMins m c t)) := by
  funext j
  rw [outsAt0_E m c t h0 h1 h2 h3]
  frame_out
  rw [read_mins]

/-- The grid's last point adds its rows' part, then its batch's columns' part. -/
theorem acc_E (c : Dev nD) (t : Fin cfg0.N) (h0 : ¬t.val % 16 = 0) (h1 : ¬t.val % 4 = 0) (h2 : t.val % 4 = 3) (h3 : t.val % 16 = 15) (j : S1x1.Idx) :
    (outsAt0 m c t.val t.isLt).2.2 j
      = k0_pay2 (F := Ideal) (k0_pay1 (F := Ideal) (k0_pay7 (F := Ideal) (iblk m c 0 t) (iblk m c 1 t) (prevMins m c t)))
        (k0_pay6 (F := Ideal) (iblk m c 0 t) (iblk m c 1 t) (prevAcc m c t (ix2 0 0))) := by
  rw [outsAt0_E m c t h0 h1 h2 h3]
  frame_out
  simp only [read_mins, read_acc, first_eq]

/-- The grid's last point writes a quarter of its accumulator to the output. -/
theorem out_E (c : Dev nD) (t : Fin cfg0.N) (h0 : ¬t.val % 16 = 0) (h1 : ¬t.val % 4 = 0) (h2 : t.val % 4 = 3) (h3 : t.val % 16 = 15) (j : S1x1.Idx) :
    (outsAt0 m c t.val t.isLt).1 j
      = k0_pay3 (F := Ideal) (k0_pay2 (F := Ideal) (k0_pay1 (F := Ideal) (k0_pay7 (F := Ideal) (iblk m c 0 t) (iblk m c 1 t) (prevMins m c t)))
        (k0_pay6 (F := Ideal) (iblk m c 0 t) (iblk m c 1 t) (prevAcc m c t (ix2 0 0)))) := by
  rw [outsAt0_E m c t h0 h1 h2 h3]
  frame_out
  simp only [read_mins, read_acc, first_eq]

end Cert.Proof.Recursion

end
-- ==== Proof.KernelValue.lean ====
/- What the kernel computes, over the extended reals, from targets and vertices with real coordinates.

   `carried` is the induction over the grid: after point `n` the carried minima are `carriedMin` and the accumulator is the
   sum of `pointAdd` over the points up to `n`. `result_eq` is its end: the kernel's result is `total (sqDist T V) / 4`. -/
module

public import proofs.«01_k».proof.Proof.Payloads
public import proofs.«01_k».proof.Proof.Operands
public import proofs.«01_k».proof.Proof.Recursion
public import Idealize.ShloMosaic.Lib.Claim

@[expose] public section

set_option maxRecDepth 16384

noncomputable section

namespace Cert.Proof.KernelValue

open Cert.KernelIdeal Cert.KernelIdeal.Gen Idealize.ShloMosaic Idealize.ShloMosaic.TcCoe Idealize.SL.Sem
open Idealize.ShloMosaic.Pipeline (Dat)
open Cert.Proof.Chamfer Cert.Proof.Distance Cert.Proof.Payloads Cert.Proof.Operands Cert.Proof.Recursion

variable (m : (ℓ : Loc nD τ sig) → Buf (Elt Ideal) ℓ) (c : Dev nD)

/-- The targets: the second argument. -/
abbrev targets : Cloud := m ((c.tc : Thread nD τ).loc main_arg1)

/-- The vertices: the first argument. -/
abbrev vertices : Cloud := m ((c.tc : Thread nD τ).loc main_arg0)

/-- The table of squared distances from the targets to the vertices. -/
abbrev table : Fin 4 → Fin 8192 → Fin 8192 → EReal := sqDist (targets m c) (vertices m c)

variable (hT : ∀ i, ∃ r : ℝ, targets m c i = (r : EReal)) (hV : ∀ i, ∃ r : ℝ, vertices m c i = (r : EReal))

include hT hV

/-- A point's block of products is its block of the table. -/
theorem block_table (t : Fin cfg0.N) (r : Fin 2048) (q : Fin 8192) :
    k0_pay5 (F := Ideal) (iblk m c 0 t) (iblk m c 1 t) (ix2 r q) = table m c (batch t.val) (row t.val r) q := by
  rw [table_apply]
  simp only [left_block, right_block]
  exact product_eq _ _ hT hV _ _ _

/-- A point's weighted row minima, added to the accumulator. -/
theorem block_rows (t : Fin cfg0.N) (a : EReal) :
    k0_pay6 (F := Ideal) (iblk m c 0 t) (iblk m c 1 t) a = a + pointRows (table m c) t.val := by
  rw [rows_eq]
  simp only [block_table m c hT hV, pointRows, rowMin]

/-- A point's column minima, met with the carried ones. -/
theorem block_mins (t : Fin cfg0.N) (a : Vec Ideal S1x8192 .f32) (q : Fin 8192) :
    k0_pay1 (F := Ideal) (k0_pay7 (F := Ideal) (iblk m c 0 t) (iblk m c 1 t) a) (ix2 0 q)
      = min (a (ix2 0 q)) (pointMin (table m c) t.val q) := by
  rw [mins_apply]
  simp only [block_table m c hT hV, pointMin]

/-- A batch's first point leaves the minima of its own block. -/
theorem carried_first (t : Fin cfg0.N) (h : t.val % 4 = 0) (q : Fin 8192) :
    k0_pay1 (F := Ideal) (k0_pay7 (F := Ideal) (iblk m c 0 t) (iblk m c 1 t) (k0_pay4 (F := Ideal))) (ix2 0 q)
      = carriedMin (table m c) t.val q := by
  rw [block_mins m c hT hV, mins_start, carriedMin_first _ _ h]

/-- A later point of a batch meets what the point before left with the minima of its own block. -/
theorem carried_next (t : Fin cfg0.N) (h : ¬t.val % 4 = 0) (q : Fin 8192)
    (ih : prevMins m c t (ix2 0 q) = carriedMin (table m c) (t.val - 1) q) :
    k0_pay1 (F := Ideal) (k0_pay7 (F := Ideal) (iblk m c 0 t) (iblk m c 1 t) (prevMins m c t)) (ix2 0 q)
      = carriedMin (table m c) t.val q := by
  rw [block_mins m c hT hV, carriedMin_next _ _ h, ih]

/-- A batch's last point adds its weighted row minima and the batch's weighted column minima. -/
theorem added_last (t : Fin cfg0.N) (h : t.val % 4 = 3) (a : EReal)
    (ih : ∀ q, prevMins m c t (ix2 0 q) = carriedMin (table m c) (t.val - 1) q) :
    k0_pay2 (F := Ideal) (k0_pay1 (F := Ideal) (k0_pay7 (F := Ideal) (iblk m c 0 t) (iblk m c 1 t) (prevMins m c t)))
        (k0_pay6 (F := Ideal) (iblk m c 0 t) (iblk m c 1 t) a)
      = a + pointAdd (table m c) t.val := by
  rw [cols_eq, block_rows m c hT hV, pointAdd, if_pos h, add_assoc]
  simp only [carried_next m c hT hV t (by omega) _ (ih _)]

/-- Any other point adds its weighted row minima alone. -/
theorem added_other (t : Fin cfg0.N) (h : ¬t.val % 4 = 3) (a : EReal) :
    k0_pay6 (F := Ideal) (iblk m c 0 t) (iblk m c 1 t) a = a + pointAdd (table m c) t.val := by
  rw [block_rows m c hT hV, pointAdd, if_neg h, add_zero]

/-- THE INDUCTION: what the carried buffers hold after point `n`. -/
theorem carried (n : ℕ) (h : n < cfg0.N) :
    (∀ q, (outsAt0 m c n h).2.1 (ix2 0 q) = carriedMin (table m c) n q)
      ∧ (outsAt0 m c n h).2.2 (ix2 0 0) = ∑ p ∈ Finset.range (n + 1), pointAdd (table m c) p := by
  have hN : n < 16 := lt_of_lt_of_eq h N_0
  induction n with
  | zero =>
    have h0 : (⟨0, h⟩ : Fin cfg0.N).val % 16 = 0 := rfl
    have h1 : (⟨0, h⟩ : Fin cfg0.N).val % 4 = 0 := rfl
    have h2 : ¬(⟨0, h⟩ : Fin cfg0.N).val % 4 = 3 := by show ¬0 % 4 = 3; decide
    have h3 : ¬(⟨0, h⟩ : Fin cfg0.N).val % 16 = 15 := by show ¬0 % 16 = 15; decide
    constructor
    · intro q
      rw [mins_A m c ⟨0, h⟩ h0 h1 h2 h3]
      exact carried_first m c hT hV ⟨0, h⟩ h1 q
    · rw [acc_A m c ⟨0, h⟩ h0 h1 h2 h3, added_other m c hT hV ⟨0, h⟩ h2, Ideal.ofBits_zero_f32, zero_add,
        Finset.sum_range_one]
  | succ n ih =>
    obtain ⟨ihm, iha⟩ := ih (by omega) (by omega)
    have h0 : ¬(⟨n + 1, h⟩ : Fin cfg0.N).val % 16 = 0 := by show ¬(n + 1) % 16 = 0; omega
    have ihm' : ∀ q, prevMins m c ⟨n + 1, h⟩ (ix2 0 q) = carriedMin (table m c) ((⟨n + 1, h⟩ : Fin cfg0.N).val - 1) q := ihm
    have iha' : prevAcc m c ⟨n + 1, h⟩ (ix2 0 0) = ∑ p ∈ Finset.range (n + 1), pointAdd (table m c) p := iha
    rw [Finset.sum_range_succ]
    by_cases h1 : (⟨n + 1, h⟩ : Fin cfg0.N).val % 4 = 0
    · have h2 : ¬(⟨n + 1, h⟩ : Fin cfg0.N).val % 4 = 3 := by omega
      have h3 : ¬(⟨n + 1, h⟩ : Fin cfg0.N).val % 16 = 15 := by omega
      constructor
      · intro q
        rw [mins_D m c ⟨n + 1, h⟩ h0 h1 h2 h3]
        exact carried_first m c hT hV ⟨n + 1, h⟩ h1 q
      · rw [acc_D m c ⟨n + 1, h⟩ h0 h1 h2 h3, added_other m c hT hV ⟨n + 1, h⟩ h2, iha']
    · by_cases h2 : (⟨n + 1, h⟩ : Fin cfg0.N).val % 4 = 3
      · by_cases h3 : (⟨n + 1, h⟩ : Fin cfg0.N).val % 16 = 15
        · constructor
          · intro q
            rw [mins_E m c ⟨n + 1, h⟩ h0 h1 h2 h3]
            exact carried_next m c hT hV ⟨n + 1, h⟩ h1 q (ihm' q)
          · rw [acc_E m c ⟨n + 1, h⟩ h0 h1 h2 h3, added_last m c hT hV ⟨n + 1, h⟩ h2 _ ihm', iha']
        · constructor
          · intro q
            rw [mins_C m c ⟨n + 1, h⟩ h0 h1 h2 h3]
            exact carried_next m c hT hV ⟨n + 1, h⟩ h1 q (ihm' q)
          · rw [acc_C m c ⟨n + 1, h⟩ h0 h1 h2 h3, added_last m c hT hV ⟨n + 1, h⟩ h2 _ ihm', iha']
      · have h3 : ¬(⟨n + 1, h⟩ : Fin cfg0.N).val % 16 = 15 := by omega
        constructor
        · intro q
          rw [mins_B m c ⟨n + 1, h⟩ h0 h1 h2 h3]
          exact carried_next m c hT hV ⟨n + 1, h⟩ h1 q (ihm' q)
        · rw [acc_B m c ⟨n + 1, h⟩ h0 h1 h2 h3, added_other m c hT hV ⟨n + 1, h⟩ h2, iha']

/-- The last point writes a quarter of the total. -/
theorem last_out (j : S1x1.Idx) :
    (outsAt0 m c t0_15.val t0_15.isLt).1 j = Ideal.div (total (table m c)) (Ideal.ofBits .f32 0x40800000#32) := by
  have h0 : ¬(t0_15 : Fin cfg0.N).val % 16 = 0 := by decide
  have h1 : ¬(t0_15 : Fin cfg0.N).val % 4 = 0 := by decide
  have h2 : (t0_15 : Fin cfg0.N).val % 4 = 3 := by decide
  have h3 : (t0_15 : Fin cfg0.N).val % 16 = 15 := by decide
  rw [out_E m c t0_15 h0 h1 h2 h3 j, ← acc_E m c t0_15 h0 h1 h2 h3 (ix2 0 0), quarter_eq]
  exact congrArg (Ideal.div · _) (((carried m c hT hV 15 t0_15.isLt).2).trans (sum_pointAdd _))

/-- The output array after the run. -/
theorem array_eq : (dats m 0 c).arrAt 2 cfg0.N
    = fun _ => Ideal.div (total (table m c)) (Ideal.ofBits .f32 0x40800000#32) := by
  refine (dats m 0 c).arrAt_eq_of_after_last 2 t0_15 (by decide +kernel) _ fun j => ?_
  blk_simp
  rw [after0_2]
  exact last_out m c hT hV _

/-- THE KERNEL'S RESULT. -/
theorem result_eq : Pipeline.afterTail₀ cfgs (dats m) 0 (V0 m) [hostOps1] c main_v24
    = fun _ => Ideal.div (total (table m c)) (Ideal.ofBits .f32 0x40800000#32) := by
  have h : Pipeline.withArrays spec0 c (V0 m c) (fun w => (dats m 0 c).arrAt w cfg0.N) (Proc.devRef .tc main_v23)
      = fun _ => Ideal.div (total (table m c)) (Ideal.ofBits .f32 0x40800000#32) :=
    (Pipeline.withArrays_arr spec0 (by decide) c (V0 m c) _ 2).trans (array_eq m c hT hV)
  show StableHlo.after hostOps1 (Pipeline.withArrays spec0 c (V0 m c) fun w => (dats m 0 c).arrAt w cfg0.N)
    (Proc.devRef .tc main_v24) = _
  after_results
  rw [h]
  rfl

end Cert.Proof.KernelValue

end
-- ==== Proof.ReferenceValue.lean ====
/- What the reference computes, over the extended reals.

   The reference's result is one sum of two means. Each mean is built from four stages: the table of squared distances
   (`distances`), the minimum along its last axis (`nearest`), the weighting (`weigh`), and the sum over points and
   batches divided by four (`meanOf`). One lemma reads each stage at an index; `result_eq` puts them together:
   the reference's result is `total (sqDist T V) / 4`, `T` its second argument and `V` its first. -/
module

public import proofs.«01_k».proof.Proof.Distance
public import proofs.«01_k».proof.Proof.Gen.ReferenceIdeal.Run

@[expose] public section

set_option maxRecDepth 16384

noncomputable section

namespace Cert.Proof.ReferenceValue

open Cert.ReferenceIdeal Cert.ReferenceIdeal.Gen Idealize.ShloMosaic Idealize.ShloMosaic.TcCoe Idealize.SL.Sem
open Cert.Proof.Chamfer Cert.Proof.Distance

/-- The table of squared distances from the points of `X` to those of `Y`. -/
def distances (X Y : FVec Ideal S4x8192x3 .f32) : FVec Ideal S4x8192x8192 .f32 :=
  subf (addf (broadcastInDim S4x8192x8192 ![0, 1, 2] bcast_S4x8192x1_S4x8192x8192_0_1_2
        (broadcastInDim S4x8192x1 ![0, 1] bcast_S4x8192_S4x8192x1_0_1
          (Host.reduceAdd (mulf X X) (constant S_ .f32 0x00000000#32) reducesTo_S4x8192x3_S4x8192_d2 h_S_)))
      (broadcastInDim S4x8192x8192 ![0, 1, 2] bcast_S4x1x8192_S4x8192x8192_0_1_2
        (broadcastInDim S4x1x8192 ![0, 2] bcast_S4x8192_S4x1x8192_0_2
          (Host.reduceAdd (mulf Y Y) (constant S_ .f32 0x00000000#32) reducesTo_S4x8192x3_S4x8192_d2 h_S_))))
    (mulf (broadcastInDim S4x8192x8192 ![] bcast_S_S4x8192x8192 (constant S_ .f32 0x40000000#32))
      (Host.dotGeneral dot_S4x8192x3_S4x8192x3_S4x8192x8192_2_2_1_1_0_0 none X Y))

/-- The least entry of each row of a table. -/
def nearest (D : FVec Ideal S4x8192x8192 .f32) : FVec Ideal S4x8192 .f32 :=
  Host.reduce FloatOps.minimumf D (constant S_ .f32 0x7F800000#32) reducesTo_S4x8192x8192_S4x8192_d2 h_S_

/-- The weighted distances. -/
def weigh (r : FVec Ideal S4x8192 .f32) : FVec Ideal S4x8192 .f32 :=
  mulf (Host.exp (Host.divf (Host.negf (mulf r r))
    (broadcastInDim S4x8192 ![] bcast_S_S4x8192 (constant S_ .f32 0x3E3851EC#32)))) r

/-- The sum over a batch's points, averaged over the four batches. -/
def meanOf (w : FVec Ideal S4x8192 .f32) : FVec Ideal S_ .f32 :=
  Host.divf (Host.reduceAdd (Host.reduceAdd w (constant S_ .f32 0x00000000#32) reducesTo_S4x8192_S4_d1 h_S_)
    (constant S_ .f32 0x00000000#32) reducesTo_S4_S_d0 h_S_) (constant S_ .f32 0x40800000#32)

/-- An entry of the table is the squared distance. -/
theorem distances_apply (X Y : FVec Ideal S4x8192x3 .f32) (b : Fin 4) (n q : Fin 8192) :
    distances X Y (ix3 b n q) = sqDist X Y b n q := by
  pointwise [distances]
  rfl

/-- A row's least entry is its infimum. -/
theorem nearest_apply (D : FVec Ideal S4x8192x8192 .f32) (b : Fin 4) (n : Fin 8192) :
    nearest D (ix2 b n) = Finset.univ.inf fun q => D (ix3 b n q) := by
  pointwise [nearest]
  exact fold_min_top _

/-- A weighted distance is the distance's `weight`. -/
theorem weigh_apply (r : FVec Ideal S4x8192 .f32) (b : Fin 4) (n : Fin 8192) :
    weigh r (ix2 b n) = weight (r (ix2 b n)) := by
  pointwise [weigh]
  exact weight_of_div _

/-- The mean is the double sum divided by four. -/
theorem meanOf_apply (w : FVec Ideal S4x8192 .f32) (j : S_.Idx) :
    meanOf w j = Ideal.div (∑ b : Fin 4, ∑ n : Fin 8192, w (ix2 b n)) (Ideal.ofBits .f32 0x40800000#32) := by
  pointwise [meanOf]

/-- One direction of the loss: the mean of the weighted distances from the points of `X` to their nearest of `Y`. -/
theorem direction_apply (X Y : FVec Ideal S4x8192x3 .f32) (j : S_.Idx) :
    meanOf (weigh (nearest (distances X Y))) j
      = Ideal.div (∑ b : Fin 4, ∑ n : Fin 8192, weight (rowMin (sqDist X Y) b n)) (Ideal.ofBits .f32 0x40800000#32) := by
  rw [meanOf_apply]
  simp only [weigh_apply, nearest_apply, distances_apply, rowMin]

variable (m : (ℓ : Loc nD τ sig) → Buf (Elt Ideal) ℓ) (c : Dev nD)

/-- The reference's composed term is the sum of its two directions. -/
theorem result_stages :
    Value.res_out0 (F := Ideal) m c
      = addf (meanOf (weigh (nearest (distances (m ((c.tc : Thread nD τ).loc main_arg1)) (m ((c.tc : Thread nD τ).loc main_arg0))))))
          (meanOf (weigh (nearest (distances (m ((c.tc : Thread nD τ).loc main_arg0)) (m ((c.tc : Thread nD τ).loc main_arg1)))))) := by
  unfold Value.res_out0 Value.res_main_v46 meanOf weigh nearest distances
  rfl

/-- THE REFERENCE'S RESULT: a quarter of the total over the table from the targets (its second argument) to the
    vertices (its first). -/
theorem result_eq (j : S_.Idx) :
    Value.res_out0 (F := Ideal) m c j
      = Ideal.div (total (sqDist (m ((c.tc : Thread nD τ).loc main_arg1)) (m ((c.tc : Thread nD τ).loc main_arg0))))
          (Ideal.ofBits .f32 0x40800000#32) := by
  rw [result_stages]
  show FloatOps.addf (F := Ideal) (φ := .f32) (meanOf _ j) (meanOf _ j) = _
  rw [direction_apply, direction_apply, Ideal.addf_def, ← div_four_add, ← Finset.sum_add_distrib, total]
  simp only [rowMin, colMin, sqDist_swap (m ((c.tc : Thread nD τ).loc main_arg1)) (m ((c.tc : Thread nD τ).loc main_arg0))]

end Cert.Proof.ReferenceValue

end
-- ==== Proof.Finite.lean ====
/- The precondition `finite`, read over the extended reals: every coordinate of the vertices and of the targets is real. -/
module

public import proofs.«01_k».proof.Defs
public import proofs.«01_k».proof.Proof.Chamfer

@[expose] public section

set_option maxRecDepth 16384

noncomputable section

namespace Cert.Proof.Finite

open Idealize.ShloMosaic Cert.Pre_finite Cert.Proof.Chamfer

/-- A number whose absolute value is below infinity is real. -/
theorem real_of_abs_lt (x : EReal) (h : Ideal.cmp .olt (max x (-x)) (Ideal.ofBits .f32 0x7F800000#32) = 1#1) :
    ∃ r : ℝ, x = (r : EReal) := by
  rw [ofBits_top] at h
  have hlt : max x (-x) < ⊤ := by
    by_contra hn
    simp [Ideal.cmp, hn] at h
  obtain ⟨h1, h2⟩ := max_lt_iff.mp hlt
  refine ⟨x.toReal, (EReal.coe_toReal h1.ne ?_).symm⟩
  rintro rfl
  simp at h2

/-- The test that the precondition makes of one array. -/
theorem real_of_test [Cert.Pre_finite.Facts] (x : FVec Ideal S4x8192x3 .f32)
    (h : cmpf .olt (Host.absf x) (broadcastInDim S4x8192x3 ![] Facts.bcast_S_S4x8192x3 (constant S_ .f32 0x7F800000#32))
      = fun _ => 1#1) (i : S4x8192x3.Idx) : ∃ r : ℝ, x i = (r : EReal) :=
  real_of_abs_lt _ (congrFun h i)

/-- The precondition makes the vertices' and the targets' coordinates real. -/
theorem real_of_pre [Cert.Pre_finite.Facts] (a0 a1 a2 : FVec Ideal S4x8192x3 .f32)
    (h : (fn (F := Ideal) a0 a1 a2).1 = (fun _ => 1#1) ∧ (fn (F := Ideal) a0 a1 a2).2 = (fun _ => 1#1)) :
    (∀ i, ∃ r : ℝ, a0 i = (r : EReal)) ∧ ∀ i, ∃ r : ℝ, a1 i = (r : EReal) :=
  ⟨real_of_test a0 h.1, real_of_test a1 h.2⟩

end Cert.Proof.Finite

end
-- ==== Proof.lean ====
/- The certificate's claims, assembled.

   The kernel computes a robust two-way Chamfer loss of two clouds of points: for each point, the squared distance to the
   nearest point of the other cloud, weighted; summed over both clouds, averaged over the batches. The frames say that both
   programs run and leave their arguments alone; `algebraic` says that over the extended reals, from arguments with finite
   coordinates, the kernel's result is the reference's. Both are `total (sqDist T V) / 4` (`KernelValue.result_eq`,
   `ReferenceValue.result_eq`). -/
module

public import proofs.«01_k».proof.Defs
public import proofs.«01_k».proof.Proof.Gen.Kernel.Frame
public import proofs.«01_k».proof.Proof.Gen.Pre_finite
public import proofs.«01_k».proof.Proof.KernelValue
public import proofs.«01_k».proof.Proof.ReferenceValue
public import proofs.«01_k».proof.Proof.Finite
public import Idealize.ShloMosaic.Lib.Claim

@[expose] public section

set_option maxRecDepth 16384

noncomputable section

namespace Cert.Proof

open Idealize.ShloMosaic Idealize.ShloMosaic.TcCoe Idealize.SL.Sem

/-- The kernel's frame. -/
theorem frame_kernel : Cert.quiescent_Kernel := fun m ρ _ => Cert.Kernel.Gen.frame m ρ

/-- The idealized kernel's frame. -/
theorem frame_ideal : Cert.quiescent_KernelIdeal := fun m ρ _ => Cert.KernelIdeal.Gen.frame m ρ

/-- The idealized kernel's frame, under the precondition. -/
theorem frame_ideal_finite : Cert.quiescent_KernelIdeal_pre_finite := fun m ρ _ => Cert.KernelIdeal.Gen.frame m ρ

/-- The reference runs, leaves its arguments alone, and declares no semaphore. -/
theorem reference_quiet (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0) :=
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The reference's frame. -/
theorem frame_reference : Cert.quiescent_ReferenceIdeal := fun m ρ _ => reference_quiet m ρ

/-- The reference's frame, under the precondition. -/
theorem frame_reference_finite : Cert.quiescent_ReferenceIdeal_pre_finite := fun m ρ _ => reference_quiet m ρ

/-- The one constant that the idealized kernel names, at both its uses: over the extended reals it is the named value. -/
theorem preserves : Cert.preserves_Kernel_KernelIdeal :=
  IdealRules.named_const.statement Cert.KernelIdeal.κ "inv_two_alpha_sq" .f32 0x40B1C71C#32 ((16777216 / 3019899 : ℝ) : EReal) rfl

/-- The two programs' results from agreeing arguments with finite coordinates: the same quarter of the same total. -/
theorem results_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal_finite m) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) :
    Cert.ReferenceIdeal.Value.res_out0 (F := Ideal) m' c
      = Pipeline.afterTail₀ Cert.KernelIdeal.cfgs (Cert.KernelIdeal.Gen.dats m) 0 (Cert.KernelIdeal.Gen.V0 m)
          [Cert.KernelIdeal.Gen.hostOps1] c Cert.KernelIdeal.main_v24 := by
  obtain ⟨hV, hT⟩ := Finite.real_of_pre _ _ _ (hpre c)
  rw [KernelValue.result_eq m c hT hV]
  funext j
  rw [ReferenceValue.result_eq m' c j, h0, h1]

/-- THE VALUE CLAIM: from finite coordinates the idealized kernel's result is the reference's. -/
theorem algebraic : Cert.algebraic_KernelIdeal_ReferenceIdeal_pre_finite := by
  pair_intro
  · run_from (Cert.KernelIdeal.Gen.run_main (F := Ideal) m g)
    · exact Cert.KernelIdeal.Gen.W_main_arg0 m _ c
    · exact Cert.KernelIdeal.Gen.W_main_arg1 m _ c
    · exact Cert.KernelIdeal.Gen.W_main_arg2 m _ c
  · run_from (Cert.ReferenceIdeal.Value.run (F := Ideal) m' g')
    exact results_eq m m' hpre c (hagree c).1 (hagree c).2.1

/-- Every claim of the certificate. -/
theorem claim : Cert.Claim := ⟨Cert.Kernel.Gen.facts, Cert.KernelIdeal.Gen.facts, Cert.ReferenceIdeal.Gen.facts,
  Cert.Pre_finite.Gen.facts, frame_kernel, frame_ideal, frame_ideal_finite, frame_reference, frame_reference_finite,
  preserves, algebraic⟩

end Cert.Proof

end
